-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x3584 : Shape := ⟨3, ![192, 1, 3584]⟩
abbrev S1792x7168 : Shape := ⟨2, ![1792, 7168]⟩
abbrev S28x7168 : Shape := ⟨2, ![28, 7168]⟩
abbrev S192x3584 : Shape := ⟨2, ![192, 3584]⟩
abbrev S192x7168 : Shape := ⟨2, ![192, 7168]⟩
abbrev S1792x512 : Shape := ⟨2, ![1792, 512]⟩
abbrev S28x512 : Shape := ⟨2, ![28, 512]⟩
abbrev S192x512 : Shape := ⟨2, ![192, 512]⟩
abbrev S1792x1x512 : Shape := ⟨3, ![1792, 1, 512]⟩
abbrev S1792x2x512 : Shape := ⟨3, ![1792, 2, 512]⟩
abbrev S3584x512 : Shape := ⟨2, ![3584, 512]⟩
abbrev S128x512 : Shape := ⟨2, ![128, 512]⟩
abbrev S1x512 : Shape := ⟨2, ![1, 512]⟩
abbrev S192x1x7168 : Shape := ⟨3, ![192, 1, 7168]⟩

abbrev nBuf : Space → Nat
  | .hbm => 10
  | .vmem => 15
  | .smem => 0
  | _ => 0

abbrev bufTy : (tb : Table) → Fin (tcTables nBuf tb) → BufTy
  | .hbm, ⟨0, _⟩ => ⟨S192x1x3584, .bf16⟩
  | .hbm, ⟨1, _⟩ => ⟨S1792x7168, .i8⟩
  | .hbm, ⟨2, _⟩ => ⟨S28x7168, .bf16⟩
  | .hbm, ⟨3, _⟩ => ⟨S28x7168, .bf16⟩
  | .hbm, ⟨4, _⟩ => ⟨S1792x7168, .i8⟩
  | .hbm, ⟨5, _⟩ => ⟨S28x7168, .bf16⟩
  | .hbm, ⟨6, _⟩ => ⟨S28x7168, .bf16⟩
  | .hbm, ⟨7, _⟩ => ⟨S192x3584, .bf16⟩
  | .hbm, ⟨8, _⟩ => ⟨S192x7168, .bf16⟩
  | .hbm, ⟨9, _⟩ => ⟨S192x1x7168, .bf16⟩
  | .local _ .vmem, ⟨0, _⟩ => ⟨S192x3584, .bf16⟩
  | .local _ .vmem, ⟨1, _⟩ => ⟨S1792x512, .i8⟩
  | .local _ .vmem, ⟨2, _⟩ => ⟨S1792x512, .i8⟩
  | .local _ .vmem, ⟨3, _⟩ => ⟨S28x512, .bf16⟩
  | .local _ .vmem, ⟨4, _⟩ => ⟨S28x512, .bf16⟩
  | .local _ .vmem, ⟨5, _⟩ => ⟨S28x512, .bf16⟩
  | .local _ .vmem, ⟨6, _⟩ => ⟨S28x512, .bf16⟩
  | .local _ .vmem, ⟨7, _⟩ => ⟨S1792x512, .i8⟩
  | .local _ .vmem, ⟨8, _⟩ => ⟨S1792x512, .i8⟩
  | .local _ .vmem, ⟨9, _⟩ => ⟨S28x512, .bf16⟩
  | .local _ .vmem, ⟨10, _⟩ => ⟨S28x512, .bf16⟩
  | .local _ .vmem, ⟨11, _⟩ => ⟨S28x512, .bf16⟩
  | .local _ .vmem, ⟨12, _⟩ => ⟨S28x512, .bf16⟩
  | .local _ .vmem, ⟨13, _⟩ => ⟨S192x512, .bf16⟩
  | .local _ .vmem, ⟨14, _⟩ => ⟨S192x512, .bf16⟩
  | _, _ => ⟨S192x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S28x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S28x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S192x1x3584 : Shape := ⟨3, ![192, 1, 3584]⟩
abbrev S1792x7168 : Shape := ⟨2, ![1792, 7168]⟩
abbrev S28x7168 : Shape := ⟨2, ![28, 7168]⟩
abbrev S192x1x1792 : Shape := ⟨3, ![192, 1, 1792]⟩
abbrev S28x64x7168 : Shape := ⟨3, ![28, 64, 7168]⟩
abbrev S_ : Shape := ⟨0, ![]⟩
abbrev S192x1x7168 : Shape := ⟨3, ![192, 1, 7168]⟩

abbrev nBuf : Space → Nat
  | .hbm => 60
  | .vmem => 0
  | .smem => 0
  | _ => 0

abbrev bufTy : (tb : Table) → Fin (tcTables nBuf tb) → BufTy
  | .hbm, ⟨0, _⟩ => ⟨S192x1x3584, .bf16⟩
  | .hbm, ⟨1, _⟩ => ⟨S1792x7168, .i8⟩
  | .hbm, ⟨2, _⟩ => ⟨S28x7168, .bf16⟩
  | .hbm, ⟨3, _⟩ => ⟨S28x7168, .bf16⟩
  | .hbm, ⟨4, _⟩ => ⟨S1792x7168, .i8⟩
  | .hbm, ⟨5, _⟩ => ⟨S28x7168, .bf16⟩
  | .hbm, ⟨6, _⟩ => ⟨S28x7168, .bf16⟩
  | .hbm, ⟨7, _⟩ => ⟨S192x1x1792, .bf16⟩
  | .hbm, ⟨8, _⟩ => ⟨S192x1x1792, .bf16⟩
  | .hbm, ⟨9, _⟩ => ⟨S28x64x7168, .bf16⟩
  | .hbm, ⟨10, _⟩ => ⟨S1792x7168, .bf16⟩
  | .hbm, ⟨11, _⟩ => ⟨S28x64x7168, .bf16⟩
  | .hbm, ⟨12, _⟩ => ⟨S1792x7168, .bf16⟩
  | .hbm, ⟨13, _⟩ => ⟨S1792x7168, .i32⟩
  | .hbm, ⟨14, _⟩ => ⟨S_, .i32⟩
  | .hbm, ⟨15, _⟩ => ⟨S1792x7168, .i32⟩
  | .hbm, ⟨16, _⟩ => ⟨S1792x7168, .i32⟩
  | .hbm, ⟨17, _⟩ => ⟨S1792x7168, .bf16⟩
  | .hbm, ⟨18, _⟩ => ⟨S1792x7168, .bf16⟩
  | .hbm, ⟨19, _⟩ => ⟨S1792x7168, .bf16⟩
  | .hbm, ⟨20, _⟩ => ⟨S_, .i32⟩
  | .hbm, ⟨21, _⟩ => ⟨S1792x7168, .i32⟩
  | .hbm, ⟨22, _⟩ => ⟨S1792x7168, .i32⟩
  | .hbm, ⟨23, _⟩ => ⟨S1792x7168, .bf16⟩
  | .hbm, ⟨24, _⟩ => ⟨S1792x7168, .bf16⟩
  | .hbm, ⟨25, _⟩ => ⟨S1792x7168, .bf16⟩
  | .hbm, ⟨26, _⟩ => ⟨S192x1x7168, .f32⟩
  | .hbm, ⟨27, _⟩ => ⟨S192x1x7168, .f32⟩
  | .hbm, ⟨28, _⟩ => ⟨S192x1x7168, .f32⟩
  | .hbm, ⟨29, _⟩ => ⟨S28x64x7168, .bf16⟩
  | .hbm, ⟨30, _⟩ => ⟨S1792x7168, .bf16⟩
  | .hbm, ⟨31, _⟩ => ⟨S28x64x7168, .bf16⟩
  | .hbm, ⟨32, _⟩ => ⟨S1792x7168, .bf16⟩
  | .hbm, ⟨33, _⟩ => ⟨S1792x7168, .i32⟩
  | .hbm, ⟨34, _⟩ => ⟨S_, .i32⟩
  | .hbm, ⟨35, _⟩ => ⟨S1792x7168, .i32⟩
  | .hbm, ⟨36, _⟩ => ⟨S1792x7168, .i32⟩
  | .hbm, ⟨37, _⟩ => ⟨S1792x7168, .bf16⟩
  | .hbm, ⟨38, _⟩ => ⟨S1792x7168, .bf16⟩
  | .hbm, ⟨39, _⟩ => ⟨S1792x7168, .bf16⟩
  | .hbm, ⟨40, _⟩ => ⟨S_, .i32⟩
  | .hbm, ⟨41, _⟩ => ⟨S1792x7168, .i32⟩
  | .hbm, ⟨42, _⟩ => ⟨S1792x7168, .i32⟩
  | .hbm, ⟨43, _⟩ => ⟨S1792x7168, .bf16⟩
  | .hbm, ⟨44, _⟩ => ⟨S1792x7168, .bf16⟩
  | .hbm, ⟨45, _⟩ => ⟨S1792x7168, .bf16⟩
  | .hbm, ⟨46, _⟩ => ⟨S192x1x7168, .f32⟩
  | .hbm, ⟨47, _⟩ => ⟨S192x1x7168, .f32⟩
  | .hbm, ⟨48, _⟩ => ⟨S192x1x7168, .f32⟩
  | .hbm, ⟨49, _⟩ => ⟨S192x1x7168, .f32⟩
  | .hbm, ⟨50, _⟩ => ⟨S192x1x7168, .f32⟩
  | .hbm, ⟨51, _⟩ => ⟨S_, .f32⟩
  | .hbm, ⟨52, _⟩ => ⟨S192x1x7168, .f32⟩
  | .hbm, ⟨53, _⟩ => ⟨S192x1x7168, .f32⟩
  | .hbm, ⟨54, _⟩ => ⟨S_, .f32⟩
  | .hbm, ⟨55, _⟩ => ⟨S192x1x7168, .f32⟩
  | .hbm, ⟨56, _⟩ => ⟨S192x1x7168, .f32⟩
  | .hbm, ⟨57, _⟩ => ⟨S192x1x7168, .f32⟩
  | .hbm, ⟨58, _⟩ => ⟨S192x1x7168, .f32⟩
  | .hbm, ⟨59, _⟩ => ⟨S192x1x7168, .bf16⟩
  | _, _ => ⟨S192x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Proof.Spec.lean ====
/-
  The mathematics both programs are compared with: a SwiGLU of two projections through 4-bit weights.

  A weight column has 3584 entries. Byte `j` of the packed column holds the codes of rows `2 j` (low half) and `2 j + 1`
  (high half); the 128 rows of one group share a scale and an offset.
-/
module

public import Idealize.ShloMosaic.Lib.Pipeline.ValueKit

@[expose] public section

noncomputable section

open Idealize.ShloMosaic

namespace Cert.Spec

/-- The 4-bit code a byte holds for a row: the low half for an even row, the high half for an odd one. -/
def code (b : BitVec 8) (row : Nat) : BitVec 32 :=
  if row % 2 = 0 then b.setWidth 32 &&& 15#32 else b.setWidth 32 >>> 4

/-- The arithmetic shift of a widened byte by four places, on whichever unit, is its high half. -/
theorem shrsi_four (u : ArithUnit) (b : BitVec 8) : IntOp.shrsi u (b.setWidth 32) 4#32 = b.setWidth 32 >>> 4 := by
  have h : (4#32).toNat < 32 := by decide
  unfold IntOp.shrsi
  rw [if_pos h]
  revert b
  decide

/-- The code of an even row. -/
theorem code_even (b : BitVec 8) (row : Nat) (h : row % 2 = 0) : code b row = IntOp.andi (b.setWidth 32) 15#32 := if_pos h

/-- The code of an odd row. -/
theorem code_odd (u : ArithUnit) (b : BitVec 8) (row : Nat) (h : ¬ row % 2 = 0) :
    code b row = IntOp.shrsi u (b.setWidth 32) 4#32 := (if_neg h).trans (shrsi_four u b).symm

/-- Entry `k` of the weight column with packed bytes `w`, group scales `s` and group offsets `z`. -/
def entry (w : Fin 1792 → BitVec 8) (s z : Fin 28 → EReal) (k : Fin 3584) : EReal :=
  FloatOps.sitofp (F := Ideal) .bf16 (code (w ⟨k.val / 2, by omega⟩) k.val) * s ⟨k.val / 128, by omega⟩ + z ⟨k.val / 128, by omega⟩

/-- The inner product of one row of activations and one weight column. -/
def project (x : Fin 3584 → EReal) (w : Fin 1792 → BitVec 8) (s z : Fin 28 → EReal) : EReal :=
  ∑ k : Fin 3584, x k * entry w s z k

/-- One element of the result: the gate projection times its logistic, times the up projection. -/
def swiglu (x : Fin 3584 → EReal) (w : Fin 1792 → BitVec 8) (s z : Fin 28 → EReal) (w' : Fin 1792 → BitVec 8) (s' z' : Fin 28 → EReal) :
    EReal :=
  project x w s z * Ideal.logistic (project x w s z) * project x w' s' z'

/-- A sum over all the rows is the sum over the even rows plus the sum over the odd rows. -/
theorem sum_even_odd (f : Fin 3584 → EReal) :
    ∑ k, f k = (∑ j : Fin 1792, f ⟨2 * j.val, by omega⟩) + ∑ j : Fin 1792, f ⟨1 + 2 * j.val, by omega⟩ := by
  rw [Fin.sum_univ_tiles 1792 2 rfl f, ← Finset.sum_add_distrib]
  refine Finset.sum_congr rfl fun j _ => ?_
  rw [Fin.sum_univ_two]
  exact congrArg₂ (fun a b => f a + f b) (Fin.ext (by simp; omega)) (Fin.ext (by simp; omega))

/-- The projection computed from the even and the odd rows apart, each row's group read off its byte (64 bytes to a group). -/
theorem project_even_odd (u : ArithUnit) (x : Fin 3584 → EReal) (w : Fin 1792 → BitVec 8) (s z : Fin 28 → EReal) :
    project x w s z
      = (∑ j : Fin 1792, x ⟨2 * j.val, by omega⟩
          * (FloatOps.sitofp (F := Ideal) .bf16 (IntOp.andi ((w j).setWidth 32) 15#32) * s ⟨j.val / 64, by omega⟩ + z ⟨j.val / 64, by omega⟩))
        + ∑ j : Fin 1792, x ⟨1 + 2 * j.val, by omega⟩
          * (FloatOps.sitofp (F := Ideal) .bf16 (IntOp.shrsi u ((w j).setWidth 32) 4#32) * s ⟨j.val / 64, by omega⟩ + z ⟨j.val / 64, by omega⟩) := by
  unfold project
  rw [sum_even_odd]
  refine congrArg₂ (· + ·) (Finset.sum_congr rfl fun j _ => ?_) (Finset.sum_congr rfl fun j _ => ?_)
  · have e2 : (⟨2 * j.val / 2, by omega⟩ : Fin 1792) = j := Fin.ext (by show 2 * j.val / 2 = j.val; omega)
    have e128 : (⟨2 * j.val / 128, by omega⟩ : Fin 28) = ⟨j.val / 64, by omega⟩ := Fin.ext (by show 2 * j.val / 128 = j.val / 64; omega)
    unfold entry
    rw [code_even _ _ (by show 2 * j.val % 2 = 0; omega)]
    simp only [e2, e128]
  · have e2 : (⟨(1 + 2 * j.val) / 2, by omega⟩ : Fin 1792) = j := Fin.ext (by show (1 + 2 * j.val) / 2 = j.val; omega)
    have e128 : (⟨(1 + 2 * j.val) / 128, by omega⟩ : Fin 28) = ⟨j.val / 64, by omega⟩ :=
      Fin.ext (by show (1 + 2 * j.val) / 128 = j.val / 64; omega)
    unfold entry
    rw [code_odd u _ _ (by show ¬ (1 + 2 * j.val) % 2 = 0; omega)]
    simp only [e2, e128]

end Cert.Spec

end
-- ==== Proof.Codes.lean ====
/-
  Unpacking: the codes of one packed block, row by row.
-/
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem

namespace Cert.KernelIdeal.Codes

open Cert.KernelIdeal Cert.KernelIdeal.Gen

/-- Row `r` of the unpacked gate codes is the code its byte, byte `r / 2` of the column, holds for it. -/
theorem gate_codes (w : Vec Ideal S1792x512 .i8) (r : Fin 3584) (c : Fin 512) :
    k0_pay3 (F := Ideal) w (ix2 r c)
      = FloatOps.sitofp (F := Ideal) .bf16 (Spec.code (w (ix2 ⟨r.val / 2, by omega⟩ c)) r.val) := by
  pointwise [k0_pay3]
  refine congrArg (FloatOps.sitofp (F := Ideal) .bf16) ?_
  by_cases h : r.val % 2 = 0
  · rw [dif_pos (by omega), Spec.code_even _ _ h]
  · rw [dif_neg (by omega), Spec.code_odd .vector _ _ h]

/-- Row `r` of the unpacked up codes is the code its byte, byte `r / 2` of the column, holds for it. -/
theorem up_codes (w : Vec Ideal S1792x512 .i8) (r : Fin 3584) (c : Fin 512) :
    k0_pay35 (F := Ideal) w (ix2 r c)
      = FloatOps.sitofp (F := Ideal) .bf16 (Spec.code (w (ix2 ⟨r.val / 2, by omega⟩ c)) r.val) := by
  pointwise [k0_pay35]
  refine congrArg (FloatOps.sitofp (F := Ideal) .bf16) ?_
  by_cases h : r.val % 2 = 0
  · rw [dif_pos (by omega), Spec.code_even _ _ h]
  · rw [dif_neg (by omega), Spec.code_odd .vector _ _ h]

end Cert.KernelIdeal.Codes

end
-- ==== Proof.Weight.lean ====
/-
  The dequantized weight of one block: the 28 groups of 128 rows, each scaled and offset by its own row of the tables,
  stacked into one array.
-/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Weight

open Cert.KernelIdeal Cert.KernelIdeal.Gen

/-- The scaled codes: entry `(r, c)` is `q (r, c) * s (r / 128, c) + z (r / 128, c)`, a group being 128 rows. -/
def weight (q : FVec Ideal S3584x512 .bf16) (s z : FVec Ideal S28x512 .bf16) : FVec Ideal S3584x512 .bf16 :=
  fun j => q j * s (ix2 ⟨(j 0).val / 128, by have : (j 0).val < 3584 := (j 0).isLt; omega⟩ (j 1))
    + z (ix2 ⟨(j 0).val / 128, by have : (j 0).val < 3584 := (j 0).isLt; omega⟩ (j 1))

/-- The rows of group `g`: entry `(r, c)` is entry `(128 g + r, c)` of the codes by the group's scale plus its offset. -/
def piece (q : FVec Ideal S3584x512 .bf16) (s z : FVec Ideal S28x512 .bf16) (g : Fin 28) : FVec Ideal S128x512 .bf16 :=
  fun y => q (ix2 ⟨128 * g.val + (y 0).val, by have : (y 0).val < 128 := (y 0).isLt; omega⟩ (y 1)) * s (ix2 g (y 1))
    + z (ix2 g (y 1))

/-- Any list that is the 28 groups in order concatenates to the scaled codes. -/
theorem concatenate_pieces (q : FVec Ideal S3584x512 .bf16) (s z : FVec Ideal S28x512 .bf16)
    (xs : List ((s : Shape) × (s.Idx → EReal))) (h : Shape.Concatenates (xs.map (·.1)) S3584x512 0)
    (hx : xs = List.ofFn fun g : Fin 28 => (⟨S128x512, piece q s z g⟩ : (s : Shape) × (s.Idx → EReal))) :
    concatenate S3584x512 0 xs h = weight q s z := by
  subst hx
  funext j
  have hj : (j 0).val < 3584 := (j 0).isLt
  refine (Idealize.ShloMosaic.concatenate_ofFn_apply (t := S3584x512) (s₁ := S128x512) 0 (piece q s z) h rfl 128 rfl j ⟨(j 0).val / 128, by omega⟩ rfl
    (ix2 ⟨(j 0).val % 128, by omega⟩ (j 1)) rfl ?_).trans ?_
  · intro b hb
    fin_cases b
    · exact absurd rfl hb
    · rfl
  · have e : (ix2 ⟨128 * ((j 0).val / 128) + (j 0).val % 128, by omega⟩ (j 1) : S3584x512.Idx) = j := by
      idx_ext
    show q (ix2 ⟨128 * ((j 0).val / 128) + (j 0).val % 128, _⟩ (j 1)) * _ + _ = _
    rw [e]
    rfl

/-- Row `g` of a table of scales or offsets, loaded as a one-row vector. -/
theorem row_load (s : Vec Ideal S28x512 .bf16) (g : Fin 28) (h : ∀ a, (![g.val, 0] : Fin 2 → Nat) a + S1x512.size a ≤ S28x512.size a)
    (c : Fin 512) :
    (View.ld s (Rect.unit (s := S28x512) ![g.val, 0] S1x512.size h) : Vec Ideal S1x512 .bf16) (ix2 0 c) = s (ix2 g c) := by
  pointwise

/-- What the body computes for one group, from the group's row of the scales and of the offsets, is the group's piece. -/
theorem piece_eq (q : FVec Ideal S3584x512 .bf16) (s z : FVec Ideal S28x512 .bf16) (g : Fin 28) (o : Nat) (ho : o = 128 * g.val)
    (hq : S3584x512.Slices ![o, 0] S128x512) (hb hb' : S1x512.Broadcasts S128x512) (sg zg : FVec Ideal S1x512 .bf16)
    (hs : ∀ c : Fin 512, sg (ix2 0 c) = s (ix2 g c)) (hz : ∀ c : Fin 512, zg (ix2 0 c) = z (ix2 g c)) :
    addf (mulf (extractStridedSlice S128x512 ![o, 0] q hq) (broadcastTo S128x512 sg hb)) (broadcastTo S128x512 zg hb')
      = piece q s z g := by
  subst ho
  funext y
  idx_vars y
  pointwise [piece, hs, hz]

/-- The 28 pieces, concatenated as the body writes them out, are the weight. -/
theorem concatenate_eq (q : FVec Ideal S3584x512 .bf16) (s z : FVec Ideal S28x512 .bf16)
    (p0 p1 p2 p3 p4 p5 p6 p7 p8 p9 p10 p11 p12 p13 p14 p15 p16 p17 p18 p19 p20 p21 p22 p23 p24 p25 p26 p27 : FVec Ideal S128x512 .bf16)
    (h0 : p0 = piece q s z 0)
    (h1 : p1 = piece q s z 1)
    (h2 : p2 = piece q s z 2)
    (h3 : p3 = piece q s z 3)
    (h4 : p4 = piece q s z 4)
    (h5 : p5 = piece q s z 5)
    (h6 : p6 = piece q s z 6)
    (h7 : p7 = piece q s z 7)
    (h8 : p8 = piece q s z 8)
    (h9 : p9 = piece q s z 9)
    (h10 : p10 = piece q s z 10)
    (h11 : p11 = piece q s z 11)
    (h12 : p12 = piece q s z 12)
    (h13 : p13 = piece q s z 13)
    (h14 : p14 = piece q s z 14)
    (h15 : p15 = piece q s z 15)
    (h16 : p16 = piece q s z 16)
    (h17 : p17 = piece q s z 17)
    (h18 : p18 = piece q s z 18)
    (h19 : p19 = piece q s z 19)
    (h20 : p20 = piece q s z 20)
    (h21 : p21 = piece q s z 21)
    (h22 : p22 = piece q s z 22)
    (h23 : p23 = piece q s z 23)
    (h24 : p24 = piece q s z 24)
    (h25 : p25 = piece q s z 25)
    (h26 : p26 = piece q s z 26)
    (h27 : p27 = piece q s z 27)
    (h : Shape.Concatenates ([⟨S128x512, p0⟩, ⟨S128x512, p1⟩, ⟨S128x512, p2⟩, ⟨S128x512, p3⟩, ⟨S128x512, p4⟩, ⟨S128x512, p5⟩, ⟨S128x512, p6⟩, ⟨S128x512, p7⟩, ⟨S128x512, p8⟩, ⟨S128x512, p9⟩, ⟨S128x512, p10⟩, ⟨S128x512, p11⟩, ⟨S128x512, p12⟩, ⟨S128x512, p13⟩, ⟨S128x512, p14⟩, ⟨S128x512, p15⟩, ⟨S128x512, p16⟩, ⟨S128x512, p17⟩, ⟨S128x512, p18⟩, ⟨S128x512, p19⟩, ⟨S128x512, p20⟩, ⟨S128x512, p21⟩, ⟨S128x512, p22⟩, ⟨S128x512, p23⟩, ⟨S128x512, p24⟩, ⟨S128x512, p25⟩, ⟨S128x512, p26⟩, ⟨S128x512, p27⟩].map
      fun p : (s : Shape) × (s.Idx → EReal) => p.1) S3584x512 0) :
    concatenate S3584x512 0 [⟨S128x512, p0⟩, ⟨S128x512, p1⟩, ⟨S128x512, p2⟩, ⟨S128x512, p3⟩, ⟨S128x512, p4⟩, ⟨S128x512, p5⟩, ⟨S128x512, p6⟩, ⟨S128x512, p7⟩, ⟨S128x512, p8⟩, ⟨S128x512, p9⟩, ⟨S128x512, p10⟩, ⟨S128x512, p11⟩, ⟨S128x512, p12⟩, ⟨S128x512, p13⟩, ⟨S128x512, p14⟩, ⟨S128x512, p15⟩, ⟨S128x512, p16⟩, ⟨S128x512, p17⟩, ⟨S128x512, p18⟩, ⟨S128x512, p19⟩, ⟨S128x512, p20⟩, ⟨S128x512, p21⟩, ⟨S128x512, p22⟩, ⟨S128x512, p23⟩, ⟨S128x512, p24⟩, ⟨S128x512, p25⟩, ⟨S128x512, p26⟩, ⟨S128x512, p27⟩] h = weight q s z := by
  subst h0 h1 h2 h3 h4 h5 h6 h7 h8 h9 h10 h11 h12 h13 h14 h15 h16 h17 h18 h19 h20 h21 h22 h23 h24 h25 h26 h27
  exact concatenate_pieces q s z _ h rfl

end Cert.KernelIdeal.Weight

end
-- ==== Proof.Gate.lean ====
/-
  The gate projection of one grid point: the body's first product is the product of the activations and the whole
  dequantized gate weight.
-/
module

public import proofs.«01_k».proof.Proof.Weight

@[expose] public section

set_option maxRecDepth 16384

noncomputable section

open Idealize.ShloMosaic Idealize.ShloMosaic.TcCoe Idealize.SL.Sem

namespace Cert.KernelIdeal.Gate

open Cert.KernelIdeal Cert.KernelIdeal.Gen Cert.KernelIdeal.Weight

variable (x : FVec Ideal S192x3584 .bf16) (w : Vec Ideal S1792x512 .i8) (s z : Vec Ideal S28x512 .bf16)

set_option maxHeartbeats 1600000 in
/-- The gate product as the body computes it, group by group, is one product with the weight. -/
theorem gate_eq :
    k0_pay34 x (k0_pay3 w) (k0_pay4 w (View.ld s r0_2) (View.ld z r0_2)) (k0_pay5 w (View.ld s r0_3) (View.ld z r0_3)) (k0_pay6 w (View.ld s r0_4) (View.ld z r0_4)) (k0_pay8 (k0_pay7 w (View.ld s r0_5)) (View.ld z r0_5)) (k0_pay9 (k0_pay3 w) (View.ld s r0_6) (View.ld z r0_6)) (k0_pay10 (k0_pay3 w) (View.ld s r0_7) (View.ld z r0_7)) (k0_pay11 (k0_pay3 w) (View.ld s r0_8) (View.ld z r0_8)) (k0_pay12 (k0_pay3 w) (View.ld s r0_9) (View.ld z r0_9)) (k0_pay13 (k0_pay3 w) (View.ld s r0_10) (View.ld z r0_10)) (k0_pay15 (k0_pay14 (k0_pay3 w)) (View.ld s r0_11) (View.ld z r0_11)) (k0_pay16 (k0_pay3 w) (View.ld s r0_12) (View.ld z r0_12)) (k0_pay17 (k0_pay3 w) (View.ld s r0_13) (View.ld z r0_13)) (k0_pay18 (k0_pay3 w) (View.ld s r0_14) (View.ld z r0_14)) (k0_pay19 (k0_pay3 w) (View.ld s r0_15) (View.ld z r0_15)) (k0_pay21 (k0_pay20 (k0_pay3 w) (View.ld s r0_16)) (View.ld z r0_16)) (k0_pay22 (k0_pay3 w) (View.ld s r0_17) (View.ld z r0_17)) (k0_pay23 (k0_pay3 w) (View.ld s r0_18) (View.ld z r0_18)) (k0_pay24 (k0_pay3 w) (View.ld s r0_19) (View.ld z r0_19)) (k0_pay25 (k0_pay3 w) (View.ld s r0_20) (View.ld z r0_20)) (k0_pay26 (k0_pay3 w) (View.ld s r0_21) (View.ld z r0_21)) (k0_pay27 (k0_pay3 w) (View.ld s r0_22) (View.ld z r0_22)) (k0_pay28 (k0_pay3 w) (View.ld s r0_23) (View.ld z r0_23)) (k0_pay29 (k0_pay3 w) (View.ld s r0_24) (View.ld z r0_24)) (k0_pay30 (k0_pay3 w) (View.ld s r0_25) (View.ld z r0_25)) (k0_pay31 (k0_pay3 w) (View.ld s r0_26) (View.ld z r0_26)) (k0_pay32 (k0_pay3 w)) (k0_pay33 (View.ld s r0_27)) (View.ld z r0_27) (View.ld s r0_28) (View.ld z r0_28) (View.ld s r0_29) (View.ld z r0_29)
      = matmul dot_S192x3584_S3584x512_S192x512_1_0_0_1_n_n none x (weight (k0_pay3 w) s z) (constant S192x512 .f32 0x00000000#32) := by
  dsimp only [k0_pay34, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  rw [concatenate_eq (k0_pay3 w) s z _ _ _ _ _ _ _ _ _ _ _ _ _ _ _ _ _ _ _ _ _ _ _ _ _ _ _ _]
  · exact piece_eq (k0_pay3 w) s z 0 0 rfl _ _ _ _ _ (row_load s 0 _) (row_load z 0 _)
  · exact piece_eq (k0_pay3 w) s z 1 128 rfl _ _ _ _ _ (row_load s 1 _) (row_load z 1 _)
  · exact piece_eq (k0_pay3 w) s z 2 256 rfl _ _ _ _ _ (row_load s 2 _) (row_load z 2 _)
  · exact piece_eq (k0_pay3 w) s z 3 384 rfl _ _ _ _ _ (row_load s 3 _) (row_load z 3 _)
  · exact piece_eq (k0_pay3 w) s z 4 512 rfl _ _ _ _ _ (row_load s 4 _) (row_load z 4 _)
  · exact piece_eq (k0_pay3 w) s z 5 640 rfl _ _ _ _ _ (row_load s 5 _) (row_load z 5 _)
  · exact piece_eq (k0_pay3 w) s z 6 768 rfl _ _ _ _ _ (row_load s 6 _) (row_load z 6 _)
  · exact piece_eq (k0_pay3 w) s z 7 896 rfl _ _ _ _ _ (row_load s 7 _) (row_load z 7 _)
  · exact piece_eq (k0_pay3 w) s z 8 1024 rfl _ _ _ _ _ (row_load s 8 _) (row_load z 8 _)
  · exact piece_eq (k0_pay3 w) s z 9 1152 rfl _ _ _ _ _ (row_load s 9 _) (row_load z 9 _)
  · exact piece_eq (k0_pay3 w) s z 10 1280 rfl _ _ _ _ _ (row_load s 10 _) (row_load z 10 _)
  · exact piece_eq (k0_pay3 w) s z 11 1408 rfl _ _ _ _ _ (row_load s 11 _) (row_load z 11 _)
  · exact piece_eq (k0_pay3 w) s z 12 1536 rfl _ _ _ _ _ (row_load s 12 _) (row_load z 12 _)
  · exact piece_eq (k0_pay3 w) s z 13 1664 rfl _ _ _ _ _ (row_load s 13 _) (row_load z 13 _)
  · exact piece_eq (k0_pay3 w) s z 14 1792 rfl _ _ _ _ _ (row_load s 14 _) (row_load z 14 _)
  · exact piece_eq (k0_pay3 w) s z 15 1920 rfl _ _ _ _ _ (row_load s 15 _) (row_load z 15 _)
  · exact piece_eq (k0_pay3 w) s z 16 2048 rfl _ _ _ _ _ (row_load s 16 _) (row_load z 16 _)
  · exact piece_eq (k0_pay3 w) s z 17 2176 rfl _ _ _ _ _ (row_load s 17 _) (row_load z 17 _)
  · exact piece_eq (k0_pay3 w) s z 18 2304 rfl _ _ _ _ _ (row_load s 18 _) (row_load z 18 _)
  · exact piece_eq (k0_pay3 w) s z 19 2432 rfl _ _ _ _ _ (row_load s 19 _) (row_load z 19 _)
  · exact piece_eq (k0_pay3 w) s z 20 2560 rfl _ _ _ _ _ (row_load s 20 _) (row_load z 20 _)
  · exact piece_eq (k0_pay3 w) s z 21 2688 rfl _ _ _ _ _ (row_load s 21 _) (row_load z 21 _)
  · exact piece_eq (k0_pay3 w) s z 22 2816 rfl _ _ _ _ _ (row_load s 22 _) (row_load z 22 _)
  · exact piece_eq (k0_pay3 w) s z 23 2944 rfl _ _ _ _ _ (row_load s 23 _) (row_load z 23 _)
  · exact piece_eq (k0_pay3 w) s z 24 3072 rfl _ _ _ _ _ (row_load s 24 _) (row_load z 24 _)
  · exact piece_eq (k0_pay3 w) s z 25 3200 rfl _ _ _ _ _ (row_load s 25 _) (row_load z 25 _)
  · exact piece_eq (k0_pay3 w) s z 26 3328 rfl _ _ _ _ _ (row_load s 26 _) (row_load z 26 _)
  · exact piece_eq (k0_pay3 w) s z 27 3456 rfl _ _ _ _ _ (row_load s 27 _) (row_load z 27 _)

end Cert.KernelIdeal.Gate

end
-- ==== Proof.Up.lean ====
/-
  The up projection of one grid point: the body's second product is the product of the activations and the whole
  dequantized up weight, and what follows it is the gated product of the two projections.
-/
module

public import proofs.«01_k».proof.Proof.Weight

@[expose] public section

set_option maxRecDepth 16384

noncomputable section

open Idealize.ShloMosaic Idealize.ShloMosaic.TcCoe Idealize.SL.Sem

namespace Cert.KernelIdeal.Up

open Cert.KernelIdeal Cert.KernelIdeal.Gen Cert.KernelIdeal.Weight

variable (x : FVec Ideal S192x3584 .bf16) (w : Vec Ideal S1792x512 .i8) (s z : Vec Ideal S28x512 .bf16)

variable (g : FVec Ideal S192x512 .f32)

set_option maxHeartbeats 1600000 in
/-- The up product as the body computes it, group by group, is one product with the weight; the body multiplies it by
    `g * logistic g`, `g` the gate product. -/
theorem up_eq :
    k0_pay64 x g (k0_pay35 w) (k0_pay36 w (View.ld s r0_2) (View.ld z r0_2)) (k0_pay38 (k0_pay37 w) (View.ld s r0_3) (View.ld z r0_3)) (k0_pay39 (k0_pay35 w) (View.ld s r0_4) (View.ld z r0_4)) (k0_pay40 (k0_pay35 w) (View.ld s r0_5) (View.ld z r0_5)) (k0_pay41 (k0_pay35 w) (View.ld s r0_6) (View.ld z r0_6)) (k0_pay42 (k0_pay35 w) (View.ld s r0_7) (View.ld z r0_7)) (k0_pay44 (k0_pay43 (k0_pay35 w) (View.ld s r0_8)) (View.ld z r0_8)) (k0_pay45 (k0_pay35 w) (View.ld s r0_9) (View.ld z r0_9)) (k0_pay46 (k0_pay35 w) (View.ld s r0_10) (View.ld z r0_10)) (k0_pay47 (k0_pay35 w) (View.ld s r0_11) (View.ld z r0_11)) (k0_pay48 (k0_pay35 w) (View.ld s r0_12) (View.ld z r0_12)) (k0_pay49 (k0_pay35 w) (View.ld s r0_13) (View.ld z r0_13)) (k0_pay51 (k0_pay50 (k0_pay35 w)) (View.ld s r0_14) (View.ld z r0_14)) (k0_pay52 (k0_pay35 w) (View.ld s r0_15) (View.ld z r0_15)) (k0_pay53 (k0_pay35 w) (View.ld s r0_16) (View.ld z r0_16)) (k0_pay54 (k0_pay35 w) (View.ld s r0_17) (View.ld z r0_17)) (k0_pay55 (k0_pay35 w) (View.ld s r0_18) (View.ld z r0_18)) (k0_pay57 (k0_pay56 (k0_pay35 w) (View.ld s r0_19)) (View.ld z r0_19)) (k0_pay58 (k0_pay35 w) (View.ld s r0_20) (View.ld z r0_20)) (k0_pay59 (k0_pay35 w) (View.ld s r0_21) (View.ld z r0_21)) (k0_pay60 (k0_pay35 w) (View.ld s r0_22) (View.ld z r0_22)) (k0_pay61 (k0_pay35 w) (View.ld s r0_23) (View.ld z r0_23)) (k0_pay62 (k0_pay35 w) (View.ld s r0_24) (View.ld z r0_24)) (k0_pay63 (k0_pay35 w)) (View.ld s r0_25) (View.ld z r0_25) (View.ld s r0_26) (View.ld z r0_26) (View.ld s r0_27) (View.ld z r0_27) (View.ld s r0_28) (View.ld z r0_28) (View.ld s r0_29) (View.ld z r0_29)
      = mulf (mulf g (logistic g))
          (matmul dot_S192x3584_S3584x512_S192x512_1_0_0_1_n_n none x (weight (k0_pay35 w) s z) (constant S192x512 .f32 0x00000000#32)) := by
  dsimp only [k0_pay64, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
  rw [concatenate_eq (k0_pay35 w) s z _ _ _ _ _ _ _ _ _ _ _ _ _ _ _ _ _ _ _ _ _ _ _ _ _ _ _ _]
  · exact piece_eq (k0_pay35 w) s z 0 0 rfl _ _ _ _ _ (row_load s 0 _) (row_load z 0 _)
  · exact piece_eq (k0_pay35 w) s z 1 128 rfl _ _ _ _ _ (row_load s 1 _) (row_load z 1 _)
  · exact piece_eq (k0_pay35 w) s z 2 256 rfl _ _ _ _ _ (row_load s 2 _) (row_load z 2 _)
  · exact piece_eq (k0_pay35 w) s z 3 384 rfl _ _ _ _ _ (row_load s 3 _) (row_load z 3 _)
  · exact piece_eq (k0_pay35 w) s z 4 512 rfl _ _ _ _ _ (row_load s 4 _) (row_load z 4 _)
  · exact piece_eq (k0_pay35 w) s z 5 640 rfl _ _ _ _ _ (row_load s 5 _) (row_load z 5 _)
  · exact piece_eq (k0_pay35 w) s z 6 768 rfl _ _ _ _ _ (row_load s 6 _) (row_load z 6 _)
  · exact piece_eq (k0_pay35 w) s z 7 896 rfl _ _ _ _ _ (row_load s 7 _) (row_load z 7 _)
  · exact piece_eq (k0_pay35 w) s z 8 1024 rfl _ _ _ _ _ (row_load s 8 _) (row_load z 8 _)
  · exact piece_eq (k0_pay35 w) s z 9 1152 rfl _ _ _ _ _ (row_load s 9 _) (row_load z 9 _)
  · exact piece_eq (k0_pay35 w) s z 10 1280 rfl _ _ _ _ _ (row_load s 10 _) (row_load z 10 _)
  · exact piece_eq (k0_pay35 w) s z 11 1408 rfl _ _ _ _ _ (row_load s 11 _) (row_load z 11 _)
  · exact piece_eq (k0_pay35 w) s z 12 1536 rfl _ _ _ _ _ (row_load s 12 _) (row_load z 12 _)
  · exact piece_eq (k0_pay35 w) s z 13 1664 rfl _ _ _ _ _ (row_load s 13 _) (row_load z 13 _)
  · exact piece_eq (k0_pay35 w) s z 14 1792 rfl _ _ _ _ _ (row_load s 14 _) (row_load z 14 _)
  · exact piece_eq (k0_pay35 w) s z 15 1920 rfl _ _ _ _ _ (row_load s 15 _) (row_load z 15 _)
  · exact piece_eq (k0_pay35 w) s z 16 2048 rfl _ _ _ _ _ (row_load s 16 _) (row_load z 16 _)
  · exact piece_eq (k0_pay35 w) s z 17 2176 rfl _ _ _ _ _ (row_load s 17 _) (row_load z 17 _)
  · exact piece_eq (k0_pay35 w) s z 18 2304 rfl _ _ _ _ _ (row_load s 18 _) (row_load z 18 _)
  · exact piece_eq (k0_pay35 w) s z 19 2432 rfl _ _ _ _ _ (row_load s 19 _) (row_load z 19 _)
  · exact piece_eq (k0_pay35 w) s z 20 2560 rfl _ _ _ _ _ (row_load s 20 _) (row_load z 20 _)
  · exact piece_eq (k0_pay35 w) s z 21 2688 rfl _ _ _ _ _ (row_load s 21 _) (row_load z 21 _)
  · exact piece_eq (k0_pay35 w) s z 22 2816 rfl _ _ _ _ _ (row_load s 22 _) (row_load z 22 _)
  · exact piece_eq (k0_pay35 w) s z 23 2944 rfl _ _ _ _ _ (row_load s 23 _) (row_load z 23 _)
  · exact piece_eq (k0_pay35 w) s z 24 3072 rfl _ _ _ _ _ (row_load s 24 _) (row_load z 24 _)
  · exact piece_eq (k0_pay35 w) s z 25 3200 rfl _ _ _ _ _ (row_load s 25 _) (row_load z 25 _)
  · exact piece_eq (k0_pay35 w) s z 26 3328 rfl _ _ _ _ _ (row_load s 26 _) (row_load z 26 _)
  · exact piece_eq (k0_pay35 w) s z 27 3456 rfl _ _ _ _ _ (row_load s 27 _) (row_load z 27 _)

end Cert.KernelIdeal.Up

end
-- ==== Proof.Block.lean ====
/-
  What one grid point computes: element `(i, c)` of the block it stores is the SwiGLU of row `i` of the activations and
  columns `c` of its blocks of the weights.
-/
module

public import proofs.«01_k».proof.Proof.Codes
public import proofs.«01_k».proof.Proof.Gate
public import proofs.«01_k».proof.Proof.Up

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Weight

/-- The offsets of a whole-block access are zero. -/
theorem zero_eq : (![0, 0] : Fin 2 → Nat) = fun _ => 0 := funext fun a => by fin_cases a <;> rfl

/-- A row of activations times a column of the gate weight. -/
theorem gate_apply (x : FVec Ideal S192x3584 .bf16) (w : Vec Ideal S1792x512 .i8) (s z : FVec Ideal S28x512 .bf16)
    (i : Fin 192) (c : Fin 512) :
    matmul dot_S192x3584_S3584x512_S192x512_1_0_0_1_n_n none x (weight (k0_pay3 w) s z) (constant S192x512 .f32 0x00000000#32) (ix2 i c)
      = Spec.project (fun k => x (ix2 i k)) (fun j => w (ix2 j c)) (fun g => s (ix2 g c)) (fun g => z (ix2 g c)) := by
  pointwise [weight, Codes.gate_codes, Spec.project, Spec.entry]

/-- A row of activations times a column of the up weight. -/
theorem up_apply (x : FVec Ideal S192x3584 .bf16) (w : Vec Ideal S1792x512 .i8) (s z : FVec Ideal S28x512 .bf16)
    (i : Fin 192) (c : Fin 512) :
    matmul dot_S192x3584_S3584x512_S192x512_1_0_0_1_n_n none x (weight (k0_pay35 w) s z) (constant S192x512 .f32 0x00000000#32) (ix2 i c)
      = Spec.project (fun k => x (ix2 i k)) (fun j => w (ix2 j c)) (fun g => s (ix2 g c)) (fun g => z (ix2 g c)) := by
  pointwise [weight, Codes.up_codes, Spec.project, Spec.entry]

/-- The block a grid point stores, element by element. -/
theorem out_apply (x : Vec Ideal S192x3584 .bf16) (w : Vec Ideal S1792x512 .i8) (s z : Vec Ideal S28x512 .bf16)
    (w' : Vec Ideal S1792x512 .i8) (s' z' : Vec Ideal S28x512 .bf16) (i : Fin 192) (c : Fin 512) :
    (show FVec Ideal S192x512 .bf16 from out0_7 x w s z w' s' z') (ix2 i c)
      = Spec.swiglu (fun k => x (ix2 i k)) (fun j => w (ix2 j c)) (fun g => s (ix2 g c)) (fun g => z (ix2 g c))
          (fun j => w' (ix2 j c)) (fun g => s' (ix2 g c)) (fun g => z' (ix2 g c)) := by
  have hx : k0_pay2 (F := Ideal) x = x := by funext j; pointwise [k0_pay2]
  unfold out0_7 k0_pay65 k0_pay66 k0_pay67
  rw [View.canon_unit_zero zero_eq, View.ld_unit_zero zero_eq, View.ld_unit_zero zero_eq, View.ld_unit_zero zero_eq, hx,
    Gate.gate_eq, Up.up_eq]
  unfold Spec.swiglu
  rw [← gate_apply x w s z, ← up_apply x w' s' z']
  rfl

end Cert.KernelIdeal.Block

end
-- ==== Proof.Result.lean ====
/-
  The kernel's result after the run: the grid's blocks tile the array, so the array holds the SwiGLU of the arguments at
  every element, and the last host line reshapes it.
-/
module

public import proofs.«01_k».proof.Proof.Block
public import Idealize.ShloMosaic.Lib.Claim

@[expose] public section

set_option maxRecDepth 16384

noncomputable section

open Idealize.ShloMosaic Idealize.ShloMosaic.TcCoe Idealize.SL.Sem

namespace Cert.KernelIdeal.Result

open Cert.KernelIdeal Cert.KernelIdeal.Gen

variable (m : (ℓ : Loc nD τ sig) → Buf (Elt Ideal) ℓ)

/-- The array the grid fills: element `(i, n)` is the SwiGLU of row `i` of the activations and columns `n` of the weights. -/
def target (x : FVec Ideal S192x1x3584 .bf16) (w : Vec Ideal S1792x7168 .i8) (s z : FVec Ideal S28x7168 .bf16)
    (w' : Vec Ideal S1792x7168 .i8) (s' z' : FVec Ideal S28x7168 .bf16) : FVec Ideal S192x7168 .bf16 :=
  fun j => Spec.swiglu (fun k => x (ix3 (j 0) 0 k)) (fun r => w (ix2 r (j 1))) (fun g => s (ix2 g (j 1))) (fun g => z (ix2 g (j 1)))
    (fun r => w' (ix2 r (j 1))) (fun g => s' (ix2 g (j 1))) (fun g => z' (ix2 g (j 1)))

/-- The block each window stages at a point: the activations whole, of the other arrays the point's columns. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] :=
  (by decide +kernel : ∀ t : Fin grid0.N, _)

/-- The first host line drops the unit axis of the activations. -/
theorem entry_rows (c : Dev nD) : V m c main_v0
    = shapeCast S192x3584 (m ((c : Thread nD τ).loc main_arg0) : FVec Ideal S192x1x3584 .bf16) shapeCasts_S192x1x3584_S192x3584 := by
  unfold V V0
  simp only [List.flatten_cons, List.flatten_nil, List.append_nil]
  unfold hostOps0
  after_results_simp
  rfl

/-- The activations as every grid point reads them: the argument, its unit axis dropped. -/
theorem rows (c : Dev nD) (t : Fin cfg0.N) (i : Fin 192) (k : Fin 3584) :
    (show FVec Ideal S192x3584 .bf16 from iblk m c 0 t) (ix2 i k)
      = (show FVec Ideal S192x1x3584 .bf16 from m ((c : Thread nD τ).loc main_arg0)) (ix3 i 0 k) := by
  have h : (show FVec Ideal S192x3584 .bf16 from iblk m c 0 t) (ix2 i k)
      = (show FVec Ideal S192x3584 .bf16 from V m c main_v0) (ix2 i k) := by
    blk_ext [iblk, idx t]
  refine h.trans ((congrFun (entry_rows m c) (ix2 i k)).trans ?_)
  pointwise

set_option maxHeartbeats 1600000 in
/-- After the run the array the grid fills is `target` of the arguments. -/
theorem final (c : Dev nD) : (dats m 0 c).arrAt 7 cfg0.N
    = target (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  idx_vars y
  refine (Block.out_apply (iblk m c 0 t) (iblk m c 1 t) (iblk m c 2 t) (iblk m c 3 t) (iblk m c 4 t) (iblk m c 5 t) (iblk m c 6 t) _ _).trans ?_
  unfold target
  congr 1 <;> funext k
  · exact (rows m c t y0 k).trans (by blk_ext [idx t])
  all_goals blk_point [iblk, V, idx t]

/-- The last host line reshapes the array the grid fills into the result. -/
theorem result_eq (c : Dev nD) :
    Pipeline.afterTail₀ cfgs (dats m) 0 (V0 m) [hostOps1] c main_v2
      = shapeCast S192x1x7168 ((dats m 0 c).arrAt 7 cfg0.N : FVec Ideal S192x7168 .bf16) shapeCasts_S192x7168_S192x1x7168 := by
  unfold Pipeline.afterTail₀
  simp only [hostOps1, List.flatten_cons, List.flatten_nil, List.append_nil]
  after_results_simp
  exact congrArg (fun v : FVec Ideal S192x7168 .bf16 => shapeCast S192x1x7168 v shapeCasts_S192x7168_S192x1x7168)
    (Pipeline.withArrays_arr spec0 (by decide) c (V0 m c) (fun w => (dats m 0 c).arrAt w (cfgs 0).N) 7)

/-- The kernel's result, whole: `target` of the arguments, the unit axis put back. -/
theorem result_target (c : Dev nD) :
    Pipeline.afterTail₀ cfgs (dats m) 0 (V0 m) [hostOps1] c main_v2
      = shapeCast S192x1x7168 (target (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))) shapeCasts_S192x7168_S192x1x7168 :=
  (result_eq m c).trans
    (congrArg (fun v : FVec Ideal S192x7168 .bf16 => shapeCast S192x1x7168 v shapeCasts_S192x7168_S192x1x7168) (final m c))

/-- Element `(i, 0, n)` of the result is the SwiGLU of row `i` of the activations and columns `n` of the weights. -/
theorem target_apply (x : FVec Ideal S192x1x3584 .bf16) (w : Vec Ideal S1792x7168 .i8) (s z : FVec Ideal S28x7168 .bf16)
    (w' : Vec Ideal S1792x7168 .i8) (s' z' : FVec Ideal S28x7168 .bf16) (i : Fin 192) (n : Fin 7168) :
    shapeCast S192x1x7168 (target x w s z w' s' z') shapeCasts_S192x7168_S192x1x7168 (ix3 i 0 n)
      = Spec.swiglu (fun k => x (ix3 i 0 k)) (fun j => w (ix2 j n)) (fun g => s (ix2 g n)) (fun g => z (ix2 g n))
          (fun j => w' (ix2 j n)) (fun g => s' (ix2 g n)) (fun g => z' (ix2 g n)) := by
  pointwise [target]

end Cert.KernelIdeal.Result

end
-- ==== Proof.Reference.lean ====
/-
  The reference's result, element by element: the SwiGLU of `Proof/Spec.lean`. The reference projects the even and the odd
  rows apart; their sum is the projection over all the rows.
-/
module

public import proofs.«01_k».proof.Proof.Gen.ReferenceIdeal.Run
public import proofs.«01_k».proof.Proof.Spec

@[expose] public section

set_option maxRecDepth 16384

noncomputable section

open Idealize.ShloMosaic Idealize.ShloMosaic.TcCoe Idealize.SL.Sem

namespace Cert.ReferenceIdeal.Closed

open Cert.ReferenceIdeal Cert.ReferenceIdeal.Gen

variable (m : (ℓ : Loc nD τ sig) → Buf (Elt Ideal) ℓ)

set_option maxHeartbeats 1600000 in
/-- Element `(i, 0, n)` of the reference's result is the SwiGLU of row `i` of the activations and columns `n` of the weights. -/
theorem res_apply (c : Dev nD) (x : FVec Ideal S192x1x3584 .bf16) (w : Vec Ideal S1792x7168 .i8) (s z : FVec Ideal S28x7168 .bf16)
    (w' : Vec Ideal S1792x7168 .i8) (s' z' : FVec Ideal S28x7168 .bf16)
    (hx : m ((c.tc : Thread nD τ).loc main_arg0) = x) (hw : m ((c.tc : Thread nD τ).loc main_arg1) = w)
    (hs : m ((c.tc : Thread nD τ).loc main_arg2) = s) (hz : m ((c.tc : Thread nD τ).loc main_arg3) = z)
    (hw' : m ((c.tc : Thread nD τ).loc main_arg4) = w') (hs' : m ((c.tc : Thread nD τ).loc main_arg5) = s')
    (hz' : m ((c.tc : Thread nD τ).loc main_arg6) = z') (i : Fin 192) (n : Fin 7168) :
    (show FVec Ideal S192x1x7168 .bf16 from Value.res_main_v40 m c) (ix3 i 0 n)
      = Spec.swiglu (fun k => x (ix3 i 0 k)) (fun j => w (ix2 j n)) (fun g => s (ix2 g n)) (fun g => z (ix2 g n))
          (fun j => w' (ix2 j n)) (fun g => s' (ix2 g n)) (fun g => z' (ix2 g n)) := by
  unfold Spec.swiglu
  rw [Spec.project_even_odd .host, Spec.project_even_odd .host]
  pointwise [Value.res_main_v40, hx, hw, hs, hz, hw', hs', hz']
  rfl

end Cert.ReferenceIdeal.Closed

end
-- ==== Proof.lean ====
/-
  The certificate: the kernel, its idealization and the reference leave their arguments alone and come to rest, the
  idealization changed nothing, and over the extended reals the kernel computes the reference.
  The frames are the generated ones; the value claim is assembled here from `Proof/Result.lean` (the kernel's result
  array) and `Proof/Reference.lean` (the reference's result array).
-/
module

public import proofs.«01_k».proof.Defs
public import proofs.«01_k».proof.Proof.Gen.Kernel.Frame
public import proofs.«01_k».proof.Proof.Result
public import proofs.«01_k».proof.Proof.Reference
public import Idealize.ShloMosaic.Lib.Quiescent
public import Idealize.ShloMosaic.Lib.Claim

@[expose] public section

set_option maxRecDepth 16384

noncomputable section

namespace Cert.Proof

open Idealize.ShloMosaic Idealize.SL.Sem

/-- The kernel leaves its arguments alone and every semaphore counter ends at zero. -/
theorem quiescent_Kernel : Cert.quiescent_Kernel := fun m g _ => Cert.Kernel.Gen.frame m g

/-- So does its idealization. -/
theorem quiescent_KernelIdeal : Cert.quiescent_KernelIdeal := fun m g _ => Cert.KernelIdeal.Gen.frame m g

/-- So does the reference, which declares no semaphore. -/
theorem quiescent_ReferenceIdeal : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

set_option maxHeartbeats 1600000 in
/-- Over the extended reals the kernel and the reference end with the same result: each element is the SwiGLU of one row
    of the activations and one column of each weight (`Spec.swiglu`). -/
theorem algebraic : Cert.algebraic_KernelIdeal_ReferenceIdeal := by
  pair_intro
  · run_from Cert.KernelIdeal.Gen.run_main m g
    exact Cert.KernelIdeal.Gen.W_main_arg0 m _ c
  · run_from Cert.ReferenceIdeal.Value.run m' g'
    obtain ⟨h0, h1, h2, h3, h4, h5, h6⟩ := hagree c
    rw [Cert.KernelIdeal.Result.result_target m c]
    funext j
    idx_vars j
    obtain rfl : j1 = 0 := Subsingleton.elim _ _
    exact (Cert.ReferenceIdeal.Closed.res_apply m' c _ _ _ _ _ _ _ h0 h1 h2 h3 h4 h5 h6 j0 j2).trans
      (Cert.KernelIdeal.Result.target_apply _ _ _ _ _ _ _ j0 j2).symm

/-- Everything the certificate claims. -/
theorem claim : Cert.Claim :=
  ⟨Cert.Kernel.Gen.facts, Cert.KernelIdeal.Gen.facts, Cert.ReferenceIdeal.Gen.facts,
    quiescent_Kernel, quiescent_KernelIdeal, quiescent_ReferenceIdeal, trivial, algebraic⟩

end Cert.Proof

end
